-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_z [hPre_finite_z : Cert.Pre_finite_z.Facts] (m : (ℓ : Loc Cert.KernelIdeal.nD Cert.KernelIdeal.τ Cert.KernelIdeal.sig) → Buf (Elt Ideal) ℓ) : Prop :=
  ∀ c : Dev Cert.KernelIdeal.nD,
    (Cert.Pre_finite_z.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_z [hPre_finite_z : Cert.Pre_finite_z.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_z.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_z [hKernelIdeal : Cert.KernelIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_z m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_z [hReferenceIdeal : Cert.ReferenceIdeal.Facts] [hPre_finite_z : Cert.Pre_finite_z.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_z m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_z [hKernelIdeal : Cert.KernelIdeal.Facts] [hReferenceIdeal : Cert.ReferenceIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_z m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_z : Cert.Pre_finite_z.Facts),
    quiescent_Kernel (hKernel := hKernel)
    ∧ quiescent_KernelIdeal (hKernelIdeal := hKernelIdeal)
    ∧ quiescent_KernelIdeal_pre_finite_z (hKernelIdeal := hKernelIdeal) (hPre_finite_z := hPre_finite_z)
    ∧ quiescent_ReferenceIdeal (hReferenceIdeal := hReferenceIdeal)
    ∧ quiescent_ReferenceIdeal_pre_finite_z (hReferenceIdeal := hReferenceIdeal) (hPre_finite_z := hPre_finite_z)
    ∧ preserves_Kernel_KernelIdeal
    ∧ algebraic_KernelIdeal_ReferenceIdeal_pre_finite_z (hKernelIdeal := hKernelIdeal) (hReferenceIdeal := hReferenceIdeal) (hPre_finite_z := hPre_finite_z)
-- ==== Pre_finite_z.lean ====
abbrev S128x64x16x16 : Shape := ⟨4, ![128, 64, 16, 16]⟩
abbrev S512x64 : Shape := ⟨2, ![512, 64]⟩
abbrev S_ : Shape := ⟨0, ![]⟩

class Facts : Prop where
  bcast_S_S128x64x16x16 : S_.BroadcastsInDim S128x64x16x16 (![] : Fin 0 → Fin S128x64x16x16.rank)
  reducesTo_S128x64x16x16_S_d0_1_2_3 : S128x64x16x16.ReducesTo [0, 1, 2, 3] S_
  h_S_ : 0 < S_.numel

variable [Facts]

def fn {F : FTy → Type} [FloatOps F] (main_arg0 : FVec F S128x64x16x16 .f32) (main_arg1 : FVec F S512x64 .f32) : IVec S_ 1 :=
  let main_v0 : FVec F S128x64x16x16 .f32 := Host.absf main_arg0
  let main_cst : FVec F S_ .f32 := constant S_ .f32 0x7F800000#32
  let main_v1 : FVec F S128x64x16x16 .f32 := broadcastInDim S128x64x16x16 ![] bcast_S_S128x64x16x16 main_cst
  let main_v2 : IVec S128x64x16x16 1 := cmpf .olt main_v0 main_v1
  let main_c : IVec S_ 1 := constantI S_ 1 1#1
  let main_v3 : IVec S_ 1 := (fun x v => Host.reduce IntOp.andi x v reducesTo_S128x64x16x16_S_d0_1_2_3 h_S_) main_v2 main_c
  main_v3
-- ==== Kernel.lean ====
abbrev S128x64x16x16 : Shape := ⟨4, ![128, 64, 16, 16]⟩
abbrev S512x64 : Shape := ⟨2, ![512, 64]⟩
abbrev S128x64x256 : Shape := ⟨3, ![128, 64, 256]⟩
abbrev S8x64x256 : Shape := ⟨3, ![8, 64, 256]⟩
abbrev S512 : Shape := ⟨1, ![512]⟩
abbrev S512x1 : Shape := ⟨2, ![512, 1]⟩
abbrev S512x256 : Shape := ⟨2, ![512, 256]⟩
abbrev S1x64x256 : Shape := ⟨3, ![1, 64, 256]⟩
abbrev S64x256 : Shape := ⟨2, ![64, 256]⟩
abbrev S256 : Shape := ⟨1, ![256]⟩
abbrev S1x256 : Shape := ⟨2, ![1, 256]⟩

abbrev nBuf : Space → Nat
  | .hbm => 5
  | .vmem => 5
  | .smem => 0
  | _ => 0

abbrev bufTy : (tb : Table) → Fin (tcTables nBuf tb) → BufTy
  | .hbm, ⟨0, _⟩ => ⟨S128x64x16x16, .f32⟩
  | .hbm, ⟨1, _⟩ => ⟨S512x64, .f32⟩
  | .hbm, ⟨2, _⟩ => ⟨S128x64x256, .f32⟩
  | .hbm, ⟨3, _⟩ => ⟨S128x64x256, .f32⟩
  | .hbm, ⟨4, _⟩ => ⟨S128x64x16x16, .f32⟩
  | .local _ .vmem, ⟨0, _⟩ => ⟨S8x64x256, .f32⟩
  | .local _ .vmem, ⟨1, _⟩ => ⟨S8x64x256, .f32⟩
  | .local _ .vmem, ⟨2, _⟩ => ⟨S512x64, .f32⟩
  | .local _ .vmem, ⟨3, _⟩ => ⟨S8x64x256, .f32⟩
  | .local _ .vmem, ⟨4, _⟩ => ⟨S8x64x256, .f32⟩
  | _, _ => ⟨S128x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x64x16x16 : Shape := ⟨4, ![128, 64, 16, 16]⟩
abbrev S512x64 : Shape := ⟨2, ![512, 64]⟩
abbrev S128x16x16x64 : Shape := ⟨4, ![128, 16, 16, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S512 : Shape := ⟨1, ![512]⟩
abbrev S1x512 : Shape := ⟨2, ![1, 512]⟩
abbrev S32768x512 : Shape := ⟨2, ![32768, 512]⟩
abbrev S64x512 : Shape := ⟨2, ![64, 512]⟩
abbrev S1 : Shape := ⟨1, ![1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S128x64x16x16, .f32⟩
  | .hbm, ⟨1, _⟩ => ⟨S512x64, .f32⟩
  | .hbm, ⟨2, _⟩ => ⟨S128x16x16x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S512x64, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S_, .f32⟩
  | .hbm, ⟨16, _⟩ => ⟨S32768x64, .f32⟩
  | .hbm, ⟨17, _⟩ => ⟨S32768x64, .f32⟩
  | .hbm, ⟨18, _⟩ => ⟨S64x512, .f32⟩
  | .hbm, ⟨19, _⟩ => ⟨S32768x512, .f32⟩
  | .hbm, ⟨20, _⟩ => ⟨S32768x512, .f32⟩
  | .hbm, ⟨21, _⟩ => ⟨S32768x512, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S1x1, .i32⟩
  | .hbm, ⟨39, _⟩ => ⟨S32768x1, .i32⟩
  | .hbm, ⟨40, _⟩ => ⟨S32768x1, .i1⟩
  | .hbm, ⟨41, _⟩ => ⟨S32768x1, .i1⟩
  | .hbm, ⟨42, _⟩ => ⟨S_, .i1⟩
  | .hbm, ⟨43, _⟩ => ⟨S32768, .i1⟩
  | .hbm, ⟨44, _⟩ => ⟨S32768x64, .f32⟩
  | .hbm, ⟨45, _⟩ => ⟨S32768x64, .i1⟩
  | .hbm, ⟨46, _⟩ => ⟨S_, .f32⟩
  | .hbm, ⟨47, _⟩ => ⟨S32768x64, .f32⟩
  | .hbm, ⟨48, _⟩ => ⟨S32768x64, .f32⟩
  | .hbm, ⟨49, _⟩ => ⟨S128x16x16x64, .f32⟩
  | .hbm, ⟨50, _⟩ => ⟨S128x64x16x16, .f32⟩
  | _, _ => ⟨S128x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]
-- ==== Proof.Nearest.lean ====
/-
  The index of the smallest of finitely many extended reals, the first one where several are smallest.

  `IsFirstMin f k` says that `k` is that index of the list `f`. It determines `k` and such a `k` exists. Two ways of
  finding it are read here: the kernel's (the least value, then the least index at which it is taken, then the row of
  zeros with a one there), and the reference's (one pass over pairs of a value and an index, keeping the smaller pair).
  A finite constant added to every entry changes nothing, which is why the kernel may leave `|row|²` out.
-/
module

public import Idealize.ShloMosaic.PureOps.Ideal
public import Idealize.ShloMosaic.PureOps.Reduce
public import Idealize.ShloMosaic.Lib.StableHlo.Predicate
public import Mathlib.Data.Prod.Lex
public import Mathlib.Data.Finset.Fold

@[expose] public section

noncomputable section

namespace Cert.Proof

open Idealize.ShloMosaic

/-! ## The index -/

/-- `k` is the first index at which `f` is smallest. -/
def IsFirstMin {n : Nat} (f : Fin n → EReal) (k : Fin n) : Prop :=
  (∀ j, f k ≤ f j) ∧ ∀ j, f j = f k → k ≤ j

variable {n : Nat} {f : Fin n → EReal} {k : Fin n}

theorem IsFirstMin.unique {k' : Fin n} (h : IsFirstMin f k) (h' : IsFirstMin f k') : k = k' :=
  le_antisymm (h.2 _ (le_antisymm (h'.1 _) (h.1 _))) (h'.2 _ (le_antisymm (h.1 _) (h'.1 _)))

/-- A list with an entry has such an index. -/
theorem exists_isFirstMin (f : Fin n → EReal) (i : Fin n) : ∃ k, IsFirstMin f k := by
  haveI : Nonempty (Fin n) := ⟨i⟩
  obtain ⟨m, hm⟩ := Finite.exists_min f
  have hne : (Finset.univ.filter fun j => f j = f m).Nonempty := ⟨m, by simp⟩
  have hk := Finset.min'_mem _ hne
  simp only [Finset.mem_filter, Finset.mem_univ, true_and] at hk
  refine ⟨_, fun j => hk ▸ hm j, fun j hj => Finset.min'_le _ _ ?_⟩
  simp only [Finset.mem_filter, Finset.mem_univ, true_and]
  exact hj.trans hk

/-! ## A finite constant added to every entry -/

theorem add_le_add_iff_finite {c : EReal} (ht : c ≠ ⊤) (hb : c ≠ ⊥) (x y : EReal) : c + x ≤ c + y ↔ x ≤ y := by
  lift c to ℝ using ⟨ht, hb⟩
  refine ⟨fun h => ?_, fun h => add_le_add_right h _⟩
  have cancel : ∀ w : EReal, ((-c : ℝ) : EReal) + ((c : EReal) + w) = w := fun w => by
    rw [← add_assoc, ← EReal.coe_add, neg_add_cancel, EReal.coe_zero, zero_add]
  have := add_le_add_right h ((-c : ℝ) : EReal)
  rwa [cancel, cancel] at this

theorem isFirstMin_add {c : EReal} (ht : c ≠ ⊤) (hb : c ≠ ⊥) : IsFirstMin (fun j => c + f j) k ↔ IsFirstMin f k := by
  have hle := add_le_add_iff_finite ht hb
  have heq : ∀ x y : EReal, c + x = c + y ↔ x = y := fun x y =>
    ⟨fun h => le_antisymm ((hle x y).1 h.le) ((hle y x).1 h.ge), fun h => by rw [h]⟩
  simp only [IsFirstMin, hle, heq]

/-! ## Keeping the smaller of two, by a key -/

/-- One pass over a list that keeps the entry of the smaller key, the later of two with equal keys: it ends with the
    start or an entry, and no key is smaller. -/
theorem foldl_smaller {α κ : Type*} [LinearOrder κ] (key : α → κ) (step : α → α → α)
    (hstep : ∀ a b, step a b = if key a < key b then a else b) (l : List α) (a : α) :
    (l.foldl step a = a ∨ l.foldl step a ∈ l) ∧ key (l.foldl step a) ≤ key a ∧ ∀ p ∈ l, key (l.foldl step a) ≤ key p := by
  induction l generalizing a with
  | nil => simp
  | cons b l ih =>
    obtain ⟨hm, ha, hl⟩ := ih (step a b)
    have hs : (step a b = a ∨ step a b = b) ∧ key (step a b) ≤ key a ∧ key (step a b) ≤ key b := by
      rw [hstep]; split
      · next h => exact ⟨.inl rfl, le_rfl, h.le⟩
      · next h => exact ⟨.inr rfl, not_lt.1 h, le_rfl⟩
    simp only [List.foldl_cons]
    refine ⟨?_, ha.trans hs.2.1, fun p hp => ?_⟩
    · rcases hm with h | h
      · rcases hs.1 with h' | h'
        · exact .inl (h.trans h')
        · exact .inr (by rw [h, h']; exact List.mem_cons_self ..)
      · exact .inr (List.mem_cons_of_mem _ h)
    · rcases List.mem_cons.1 hp with rfl | hp
      · exact ha.trans hs.2.2
      · exact hl p hp

/-! ## The kernel's way -/

/-- The least value, started from the top, is the value at the index. -/
theorem fold_min_eq (h : IsFirstMin f k) : Finset.univ.fold min (⊤ : EReal) f = f k :=
  le_antisymm (Finset.fold_min_le _ |>.2 (.inr ⟨k, Finset.mem_univ _, le_rfl⟩))
    (Finset.le_fold_min _ |>.2 ⟨le_top, fun j _ => h.1 j⟩)

/-- The signed minimum of two words, read as integers. -/
theorem toInt_minsi (a b : BitVec 32) : (IntOp.minsi a b).toInt = min a.toInt b.toInt := by
  simp only [IntOp.minsi, BitVec.slt, decide_eq_true_eq]
  split <;> omega

/-- The least of the indices at which the least value is taken, every other index replaced by 512, is the index. -/
theorem fold_minsi_eq {f : Fin 512 → EReal} {k : Fin 512} (h : IsFirstMin f k) :
    Finset.univ.fold IntOp.minsi (2147483647#32) (fun j : Fin 512 => if f j = f k then BitVec.ofNat 32 j.val else 512#32)
      = BitVec.ofNat 32 k.val := by
  refine BitVec.eq_of_toInt_eq ?_
  rw [← Finset.fold_hom (op' := min) (m := BitVec.toInt) toInt_minsi]
  have small : ∀ j : Fin 512, (BitVec.ofNat 32 j.val).toInt = j.val := fun j =>
    StableHlo.Predicate.toInt_ofNat_small _ (by omega)
  refine le_antisymm (Finset.fold_min_le _ |>.2 (.inr ⟨k, Finset.mem_univ _, ?_⟩))
    (Finset.le_fold_min _ |>.2 ⟨?_, fun j _ => ?_⟩)
  · rw [if_pos rfl]
  · rw [small]; have := k.isLt; show (k.val : Int) ≤ 2147483647; omega
  · rw [small]
    split
    · next e => rw [small]; exact_mod_cast h.2 j e
    · have := k.isLt; show (k.val : Int) ≤ 512; omega

/-- A sum against the row of zeros with a one at the index is the entry there, whatever the other entries. -/
theorem sum_onehot (x : Fin 512 → EReal) (k : Fin 512) :
    ∑ j : Fin 512, x j * (((BitVec.setWidth 32 (IntOp.cmpi .eq (BitVec.ofNat 32 j.val) (BitVec.ofNat 32 k.val))).toInt : ℝ) : EReal)
      = x k := by
  rw [Finset.sum_eq_single k]
  · have : (BitVec.setWidth 32 (IntOp.cmpi .eq (BitVec.ofNat 32 k.val) (BitVec.ofNat 32 k.val))).toInt = 1 := by
      simp [IntOp.cmpi]
    rw [this]; simp
  · intro j _ hj
    have hne : BitVec.ofNat 32 j.val ≠ BitVec.ofNat 32 k.val := fun e => hj (Fin.ext (by
      have := congrArg BitVec.toNat e
      simp only [BitVec.toNat_ofNat] at this
      omega))
    have : (BitVec.setWidth 32 (IntOp.cmpi .eq (BitVec.ofNat 32 j.val) (BitVec.ofNat 32 k.val))).toInt = 0 := by
      simp only [IntOp.cmpi, beq_eq_false_iff_ne.2 hne]; decide
    rw [this]; simp
  · intro h; exact absurd (Finset.mem_univ _) h

/-! ## The reference's way -/

/-- A pair's key: the value, then the index read as a signed number. -/
def pairKey (p : EReal × BitVec 32) : EReal ×ₗ ℤ := toLex (p.1, p.2.toInt)

/-- One pass over the pairs of a value and its index, in any order, from the pair of the top and index 0, ends with the
    index. -/
theorem foldl_pairs {f : Fin 512 → EReal} {k : Fin 512} (h : IsFirstMin f k)
    (step : EReal × BitVec 32 → EReal × BitVec 32 → EReal × BitVec 32)
    (hstep : ∀ a b, step a b = if pairKey a < pairKey b then a else b)
    (l : List (EReal × BitVec 32)) (hl : ∀ p, p ∈ l ↔ ∃ j : Fin 512, p = (f j, BitVec.ofNat 32 j.val)) :
    (l.foldl step (⊤, 0#32)).2 = BitVec.ofNat 32 k.val := by
  obtain ⟨hm, -, hle⟩ := foldl_smaller pairKey step hstep l (⊤, 0#32)
  have small : ∀ j : Fin 512, (BitVec.ofNat 32 j.val).toInt = j.val := fun j =>
    StableHlo.Predicate.toInt_ofNat_small _ (by omega)
  generalize l.foldl step (⊤, 0#32) = r at hm hle ⊢
  have hlex : ∀ j : Fin 512, r.1 < f j ∨ r.1 = f j ∧ r.2.toInt ≤ j.val := fun j => by
    have := hle _ ((hl _).2 ⟨j, rfl⟩)
    simp only [pairKey, Prod.Lex.toLex_le_toLex, small] at this
    exact this
  rcases hm with rfl | hm
  · -- every value is the top, so the first index is 0
    have htop : ∀ j, f j = ⊤ := fun j => by
      rcases hlex j with h' | h'
      · exact absurd h' not_top_lt
      · exact h'.1.symm
    have : k = 0 := le_antisymm (h.2 0 (by rw [htop, htop])) (Fin.zero_le _)
    rw [this]; rfl
  · obtain ⟨i, rfl⟩ := (hl _).1 hm
    have hi : IsFirstMin f i := by
      refine ⟨fun j => ?_, fun j e => ?_⟩
      · rcases hlex j with h' | h'
        · exact h'.le
        · exact h'.1.le
      · rcases hlex j with h' | h'
        · exact absurd h' (by simp [e])
        · have := h'.2; rw [small] at this; exact_mod_cast this
    rw [hi.unique h]

/-! ## Arithmetic of the two distances -/

/-- Twice a sum is the sum of the doubles. -/
theorem two_mul_sum (x : Fin n → EReal) : ∑ j, (2 : EReal) * x j = 2 * ∑ j, x j := by
  have h2 : (0 : EReal) ≤ 2 := by norm_num
  have h2' : (2 : EReal) ≠ ⊤ := by exact EReal.coe_ne_top 2
  induction (Finset.univ : Finset (Fin n)) using Finset.cons_induction with
  | empty => simp
  | cons a s ha ih => rw [Finset.sum_cons, Finset.sum_cons, ih, EReal.left_distrib_of_nonneg_of_ne_top h2 h2']

/-- A sum of finite numbers is finite. -/
theorem sum_finite {x : Fin n → EReal} (h : ∀ j, x j ≠ ⊤ ∧ x j ≠ ⊥) : ∑ j, x j ≠ ⊤ ∧ ∑ j, x j ≠ ⊥ := by
  induction (Finset.univ : Finset (Fin n)) using Finset.cons_induction with
  | empty => simp
  | cons a s ha ih =>
    rw [Finset.sum_cons]
    obtain ⟨h1, h2⟩ := h a
    lift x a to ℝ using ⟨h1, h2⟩ with y
    obtain ⟨h3, h4⟩ := ih
    lift ∑ j ∈ s, x j to ℝ using ⟨h3, h4⟩ with w
    exact ⟨by exact_mod_cast EReal.coe_ne_top (y + w), by exact_mod_cast EReal.coe_ne_bot (y + w)⟩

/-- A product of two finite numbers is finite. -/
theorem mul_finite {x y : EReal} (hx : x ≠ ⊤ ∧ x ≠ ⊥) (hy : y ≠ ⊤ ∧ y ≠ ⊥) : x * y ≠ ⊤ ∧ x * y ≠ ⊥ := by
  lift x to ℝ using hx
  lift y to ℝ using hy
  exact ⟨by exact_mod_cast EReal.coe_ne_top (x * y), by exact_mod_cast EReal.coe_ne_bot (x * y)⟩

/-- The reference's distance to codeword `j` is `|z|²` and the kernel's score, so with `z` finite the two have the
    same first least index. -/
theorem isFirstMin_dist (e : Fin 512 → Fin 64 → EReal) (z : Fin 64 → EReal) (hz : ∀ c, z c ≠ ⊤ ∧ z c ≠ ⊥) (k : Fin 512) :
    IsFirstMin (fun j => ((∑ c, z c * z c) + ∑ c, e j c * e j c) - ∑ c, (2 : EReal) * z c * e j c) k
      ↔ IsFirstMin (fun j => (∑ c, e j c * e j c) - 2 * ∑ c, e j c * z c) k := by
  have hc := sum_finite fun c => mul_finite (hz c) (hz c)
  refine Iff.trans ?_ (isFirstMin_add hc.1 hc.2)
  have : ∀ j, ∑ c, (2 : EReal) * z c * e j c = 2 * ∑ c, e j c * z c := fun j => by
    rw [← two_mul_sum]; exact Finset.sum_congr rfl fun c _ => by rw [mul_assoc, mul_comm (z c)]
  simp only [this, sub_eq_add_neg, add_assoc]

end Cert.Proof

end
-- ==== Proof.Slab.lean ====
/-
  What the kernel computes of one image.

  At a grid point the body handles eight images, and for each it stores the same function of the codewords and of that
  image's 64 channels by 256 positions. The generated file splits that function in different ways for different images;
  here each is read as the first image's (`k0_pay2`), and that one is read at an element: the result at channel `c` and
  position `p` is channel `c` of the codeword whose score `|e_j|² - 2·(e_j·z)` is the first smallest, `z` being the
  image's channels at `p`.
-/
module

public import proofs.«01_k».proof.Proof.Nearest
public import proofs.«01_k».proof.Proof.Gen.KernelIdeal.Frame
public import Idealize.ShloMosaic.Lib.Pointwise

@[expose] public section

noncomputable section

namespace Cert.Proof

open Idealize.ShloMosaic Idealize.ShloMosaic.TcCoe Idealize.SL.Sem
open Cert.KernelIdeal Cert.KernelIdeal.Gen

/-! ## Eight times the same function -/

section Same

variable {F : FTy → Type} [FloatOps F] (E : Vec F S512x64 .f32) (Z : Vec F S1x64x256 .f32)

/-- The row numbers, `iota` down the codewords. -/
abbrev rowsIota : IVec S512x256 32 := iota .tc S512x256 32 [0] iota_S512x256_d0_w32

theorem same1 : k0_pay5 E rowsIota (k0_pay3 E Z) (k0_pay4 E Z) = k0_pay2 E Z := rfl
theorem same2 : k0_pay6 E (k0_pay1 E) rowsIota Z = k0_pay2 E Z := rfl
theorem same3 : k0_pay7 E (k0_pay1 E) rowsIota Z = k0_pay2 E Z := rfl
theorem same4 : k0_pay9 E (k0_pay8 E (k0_pay1 E) rowsIota Z) = k0_pay2 E Z := rfl
theorem same5 : k0_pay10 E (k0_pay1 E) rowsIota Z = k0_pay2 E Z := rfl
theorem same6 : k0_pay13 E rowsIota (k0_pay11 E (k0_pay1 E) Z) (k0_pay12 E (k0_pay1 E) Z) = k0_pay2 E Z := rfl
theorem same7 : k0_pay14 E (k0_pay1 E) rowsIota Z = k0_pay2 E Z := rfl

end Same

/-! ## The function at an element -/

/-- The kernel's score of codeword `j` for the channels `z` of one position. -/
def score (E : FVec Ideal S512x64 .f32) (z : Fin 64 → EReal) (j : Fin 512) : EReal :=
  (∑ c : Fin 64, E (ix2 j c) * E (ix2 j c)) - 2 * ∑ c : Fin 64, E (ix2 j c) * z c

theorem ofBits_two : Ideal.ofBits .f32 0x40000000#32 = 2 := by
  rw [show (2 : EReal) = ((2 : ℝ) : EReal) by norm_cast]
  simp [Ideal.ofBits, Ideal.ieee, -EReal.coe_mul]; norm_num

theorem ofBits_inf : Ideal.ofBits .f32 0x7F800000#32 = ⊤ := by simp [Ideal.ofBits, Ideal.ieee]

theorem slab_apply (E : FVec Ideal S512x64 .f32) (Z : FVec Ideal S1x64x256 .f32) (c : Fin 64) (p : Fin 256) {k : Fin 512}
    (h : IsFirstMin (score E fun c => Z (ix3 0 c p)) k) :
    k0_pay2 (F := Ideal) E Z (ix3 0 c p) = E (ix2 k c) := by
  pointwise [k0_pay2, k0_pay1]
  have hmin := fold_min_eq h
  have hidx := fold_minsi_eq h
  unfold score at hmin hidx
  rw [ofBits_two, ofBits_inf, hmin, hidx]
  exact sum_onehot (fun j => E (ix2 j c)) k

end Cert.Proof

end
-- ==== Proof.Block.lean ====
/-
  What one grid point stores: the block of eight images, at an element.

  The body's eight stores tile the point's block, one image each, and each stores the same function of the codewords and
  of its image (`Slab`). So the block at image `b`, channel `c`, position `p` is channel `c` of the codeword that image
  `b`'s channels at `p` choose.
-/
module

public import proofs.«01_k».proof.Proof.Slab
public import Idealize.ShloMosaic.Lib.Pipeline.ValueKit

@[expose] public section

noncomputable section

namespace Cert.Proof

open Idealize.ShloMosaic Idealize.ShloMosaic.TcCoe Idealize.SL.Sem
open Cert.KernelIdeal Cert.KernelIdeal.Gen

/-- The codeword chosen for the channels `z`: the first of those with the smallest score. -/
def chosen (E : FVec Ideal S512x64 .f32) (z : Fin 64 → EReal) : Fin 512 :=
  Classical.choose (exists_isFirstMin (score E z) 0)

theorem chosen_spec (E : FVec Ideal S512x64 .f32) (z : Fin 64 → EReal) : IsFirstMin (score E z) (chosen E z) :=
  Classical.choose_spec (exists_isFirstMin (score E z) 0)

/-- The nearest codewords of `n` images of 64 channels by 256 positions. -/
def nearest {n : Nat} (E : FVec Ideal S512x64 .f32) (X : FVec Ideal ⟨3, ![n, 64, 256]⟩ .f32)
    (b : Fin n) (c : Fin 64) (p : Fin 256) : EReal :=
  E (ix2 (chosen E fun c' => X (ix3 b c' p)) c)

/-- The image in the block's row `o`, as the body loads and stores it. -/
abbrev rowAt (o : Nat) (inb : ∀ a, (![o, 0, 0] : Fin 3 → Nat) a + S1x64x256.size a ≤ S8x64x256.size a) : Rect S8x64x256 :=
  Rect.unit (s := S8x64x256) ![o, 0, 0] S1x64x256.size inb

section Store

variable (E : FVec Ideal S512x64 .f32) (X : Vec Ideal S8x64x256 .f32)

/-- The block of the eight images' nearest codewords. -/
def blockOf : Vec Ideal S8x64x256 .f32 := fun y => nearest E X (y 0) (y 1) (y 2)

/-- One store, at channel `c` and position `p`: the image in row `b`. -/
theorem row_apply (o : Nat) (inb : ∀ a, (![o, 0, 0] : Fin 3 → Nat) a + S1x64x256.size a ≤ S8x64x256.size a)
    (b : Fin 8) (hb : b.val = o) (c : Fin 64) (p : Fin 256) :
    k0_pay2 (F := Ideal) E (View.ld X (rowAt o inb)) (ix3 0 c p) = nearest E X b c p := by
  refine slab_apply E _ _ _ ?_
  have hrow (c' : Fin 64) : View.ld (Val := Elt Ideal) (e' := .f32) X (rowAt o inb) (ix3 0 c' p) = X (ix3 b c' p) := by
    refine congrArg X (funext fun a => ?_)
    match a with
    | ⟨0, _⟩ => exact Fin.ext (by show o + 1 * 0 = b.val; omega)
    | ⟨1, _⟩ => exact Fin.ext (by show 0 + 1 * c'.val = c'.val; omega)
    | ⟨2, _⟩ => exact Fin.ext (by show 0 + 1 * p.val = p.val; omega)
  rw [show (fun c' => View.ld (Val := Elt Ideal) (e' := .f32) X (rowAt o inb) (ix3 0 c' p)) = _ from funext hrow]
  exact chosen_spec E _

/-- One store is the block's part at its row. -/
theorem store_apply (o : Nat) (inb : ∀ a, (![o, 0, 0] : Fin 3 → Nat) a + S1x64x256.size a ≤ S8x64x256.size a)
    (x : S1x64x256.Idx) :
    k0_pay2 (F := Ideal) E (View.ld X (rowAt o inb)) x = blockOf E X ((rowAt o inb).emb x) := by
  have hx : x = ix3 0 (x 1) (x 2) := by
    funext a
    match a with
    | ⟨0, _⟩ => exact Subsingleton.elim (α := Fin 1) _ _
    | ⟨1, _⟩ => rfl
    | ⟨2, _⟩ => rfl
  have h0 : (((rowAt o inb).emb x) 0).val = o := by
    have : (x 0).val < 1 := (x 0).isLt
    rw [Rect.emb_apply]; show o + 1 * (x 0).val = o; omega
  have h1 : ((rowAt o inb).emb x) 1 = x 1 := Fin.ext (by rw [Rect.emb_apply]; show 0 + 1 * (x 1).val = _; omega)
  have h2 : ((rowAt o inb).emb x) 2 = x 2 := Fin.ext (by rw [Rect.emb_apply]; show 0 + 1 * (x 2).val = _; omega)
  exact (congrArg (k0_pay2 (F := Ideal) E (View.ld X (rowAt o inb))) hx).trans
    ((row_apply E X o inb _ h0 (x 1) (x 2)).trans (congrArg₂ (nearest E X _) h1.symm h2.symm))

/-- The block after the body. -/
theorem block_eq : out0_2 (F := Ideal) X E = blockOf E X := by
  have hE : View.ld (Val := Elt Ideal) (e' := .f32) E r0_0 = E :=
    View.ld_unit_zero (S := S512x64) (off := ![0, 0]) (by decide) _ _
  funext y
  refine View.canon_apply_of_pieces (blockOf E X) _ ?_ _ (cover0_2 _ _ _ _ _ _ _ _ _)
  unfold k0_pay16 k0_pay15
  rw [hE]
  simp only [List.forall_mem_cons]
  refine ⟨?_, ?_, ?_, ?_, ?_, ?_, ?_, ?_, fun _ h => nomatch h⟩ <;> intro x
  · exact (congrFun (same7 (F := Ideal) E (View.ld X r0_8)) x).trans (store_apply E X 7 _ x)
  · exact (congrFun (same6 (F := Ideal) E (View.ld X r0_7)) x).trans (store_apply E X 6 _ x)
  · exact (congrFun (same5 (F := Ideal) E (View.ld X r0_6)) x).trans (store_apply E X 5 _ x)
  · exact (congrFun (same4 (F := Ideal) E (View.ld X r0_5)) x).trans (store_apply E X 4 _ x)
  · exact (congrFun (same3 (F := Ideal) E (View.ld X r0_4)) x).trans (store_apply E X 3 _ x)
  · exact (congrFun (same2 (F := Ideal) E (View.ld X r0_3)) x).trans (store_apply E X 2 _ x)
  · exact (congrFun (same1 (F := Ideal) E (View.ld X r0_2)) x).trans (store_apply E X 1 _ x)
  · exact store_apply E X 0 _ x

end Store

end Cert.Proof

end
-- ==== Proof.Array.lean ====
/-
  What the kernel's output array holds after the run, and the kernel's result.

  The sixteen blocks tile the array of 128 images, so the array holds every image's nearest codewords; the reshapes before
  and after the launch only split and join the position axis.
-/
module

public import proofs.«01_k».proof.Proof.Block

@[expose] public section

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Point `t` works on block `t` of the images and of the results, and on all the codewords. -/
theorem idx : ∀ t : Fin cfg0.N, win0_0.index t = ![t.val, 0, 0] ∧ win0_1.index t = ![0, 0] ∧ win0_2.index t = ![t.val, 0, 0] :=
  (by decide +kernel : ∀ t : Fin grid0.N, _)

/-- Every point finds all the codewords. -/
theorem codewords_blk (t : Fin cfg0.N) : iblk m c 1 t = V m c main_arg1 := by
  funext y
  blk_ext [iblk, (idx t).2.1]

theorem nearest_congr {n n' : Nat} (E : FVec Ideal S512x64 .f32) {X : FVec Ideal ⟨3, ![n, 64, 256]⟩ .f32}
    {X' : FVec Ideal ⟨3, ![n', 64, 256]⟩ .f32} {b : Fin n} {b' : Fin n'} {c c' : Fin 64} {p p' : Fin 256}
    (h : ∀ c p, X (ix3 b c p) = X' (ix3 b' c p)) (hc : c.val = c'.val) (hp : p.val = p'.val) :
    nearest E X b c p = nearest E X' b' c' p' := by
  obtain rfl := Fin.ext hc
  obtain rfl := Fin.ext hp
  unfold nearest
  simp only [h]

/-- The launch's output array holds the nearest codewords of the 128 images. -/
theorem array_eq : (dats (F := Ideal) m 0 c).arrAt 2 cfg0.N
    = fun y => nearest (n := 128) (V m c main_arg1) (V m c main_v0) (y 0) (y 1) (y 2) := by
  refine (dats (F := Ideal) m 0 c).arrAt_eq_of_covers 2 _ (by decide +kernel) fun t hf y => ?_
  blk_simp
  rw [after0_2, block_eq]
  rw [codewords_blk]
  unfold blockOf
  have hrow (b : Fin 8) (c' : Fin 64) (p : Fin 256) (hb : t.val * 8 + b.val < 128) :
      iblk m c 0 t (ix3 b c' p) = V m c main_v0 (ix3 ⟨t.val * 8 + b.val, hb⟩ c' p) := by
    blk_ext [iblk, (idx t).1]
  have ht : t.val < 16 := t.isLt
  have hy : (y 0).val < 8 := (y 0).isLt
  have hb : t.val * 8 + (y 0).val < 128 := by omega
  have h0 : (win0_2.blk t).view.emb y 0 = ⟨t.val * 8 + (y 0).val, hb⟩ := Fin.ext (by blk_simp [(idx t).2.2])
  have h1 : ((win0_2.blk t).view.emb y 1).val = (y 1).val := by blk_simp [(idx t).2.2]
  have h2 : ((win0_2.blk t).view.emb y 2).val = (y 2).val := by blk_simp [(idx t).2.2]
  exact nearest_congr _ (by rw [h0]; exact fun c' p => hrow _ c' p hb) h1.symm h2.symm

/-- The launch finds the images with the two position axes joined. -/
theorem images_apply (b : Fin 128) (c' : Fin 64) (p : Fin 256) : V m c main_v0 (ix3 b c' p)
    = m ((c.tc : Thread nD τ).loc main_arg0) (ix4 b c' ⟨p.val / 16, by omega⟩ ⟨p.val % 16, by omega⟩) := by
  rw [show V m c main_v0 = shapeCast S128x64x256 (m ((c.tc : Thread nD τ).loc main_arg0)) shapeCasts_S128x64x16x16_S128x64x256 from by
    unfold_abbrev_sides
    simp only [List.flatten_cons, List.flatten_nil, List.append_nil, hostOps0]
    after_results
    rfl]
  pointwise

/-- The kernel's result on images `z` and codewords `e`: at each position, the nearest codeword's channels. -/
def result (z : FVec Ideal S128x64x16x16 .f32) (e : FVec Ideal S512x64 .f32) : FVec Ideal S128x64x16x16 .f32 :=
  fun i => e (ix2 (chosen e fun c' => z (ix4 (i 0) c' (i 2) (i 3))) (i 1))

/-- The last reshape leaves the result. -/
theorem result_eq : Pipeline.afterTail₀ cfgs (dats (F := Ideal) m) 0 (V0 m) [hostOps1] c main_v2
    = result (m ((c.tc : Thread nD τ).loc main_arg0)) (m ((c.tc : Thread nD τ).loc main_arg1)) := by
  have hread : Pipeline.afterTail₀ cfgs (dats (F := Ideal) m) 0 (V0 m) [hostOps1] c main_v2
      = shapeCast S128x64x16x16 ((dats (F := Ideal) m 0 c).arrAt 2 cfg0.N) shapeCasts_S128x64x256_S128x64x16x16 := by
    unfold Pipeline.afterTail₀
    simp only [List.flatten_cons, List.flatten_nil, List.append_nil, hostOps1]
    after_results
    exact congrArg (fun v => shapeCast S128x64x16x16 v shapeCasts_S128x64x256_S128x64x16x16)
      (Pipeline.withArrays_arr spec0 (by decide) c (V0 m c) (fun w => (dats (F := Ideal) m 0 c).arrAt w cfg0.N) 2)
  rw [hread, array_eq, V_main_arg1]
  funext i
  obtain ⟨b, c', h, w, rfl⟩ : ∃ b c' h w, i = ix4 b c' h w := ⟨_, _, _, _, eq_ix4 i⟩
  pointwise [result]
  unfold nearest
  have hrow (d : Fin 64) : V m c main_v0 (ix3 b d ⟨h.val * 16 + w.val, by omega⟩)
      = m ((c.tc : Thread nD τ).loc main_arg0) (ix4 b d h w) := by
    rw [images_apply]
    congr 2
    · exact Fin.ext (by show (h.val * 16 + w.val) / 16 = h.val; omega)
    · exact Fin.ext (by show (h.val * 16 + w.val) % 16 = w.val; omega)
  simp only [hrow]

/-- The kernel run, with its result. -/
theorem kernel_run (ρ : Dev nD → PrngReg) : θ_run defs (onTc (τ := τ) (main (F := Ideal))) ⟨m, fun _ => 0, ρ⟩ fun r =>
    ∀ c : Dev nD, r.2.mem ((c.tc : Thread nD τ).loc main_v2)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from run_main m ρ
  · exact result_eq m c
  · exact W_main_arg0 m (dats m) c

end Cert.Proof

end
-- ==== Proof.RefRun.lean ====
/-
  What the reference computes, as one term of its two arguments, and that its run ends there.

  The reference is a straight line of host operations, with the bodies of the two helpers it calls (the arg-min and the
  row lookup) in place of the calls. So its run is the library's `run_seq` over the list of those operations, and each
  buffer ends at the fold of the list. The term is named stage by stage: `flat` (one row per position), `dist` (the
  squared distances to the codewords), `pick` (the index of the nearest codeword), `rows` (the codewords looked up) and
  `out` (the result laid out as the input is).
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The result, stage by stage -/

/-- The input as 32768 rows of 64 channels: row `256·b + p` is position `p` of image `b`. -/
def flat (z : FVec F S128x64x16x16 .f32) : FVec F S32768x64 .f32 :=
  shapeCast S32768x64 (transpose S128x16x16x64 [0, 2, 3, 1] z transposes_S128x64x16x16_S128x16x16x64_0_2_3_1)
    shapeCasts_S128x16x16x64_S32768x64

/-- The squared distance of each row to each codeword: `|row|² + |code|² - (2·row)·code`. -/
def dist (x : FVec F S32768x64 .f32) (e : FVec F S512x64 .f32) : FVec F S32768x512 .f32 :=
  subf
    (addf
      (broadcastInDim S32768x512 ![0, 1] bcast_S32768x1_S32768x512_0_1
        (broadcastInDim S32768x1 ![0] bcast_S32768_S32768x1_0
          (Host.reduceAdd (mulf x x) (constant S_ .f32 0x00000000#32) reducesTo_S32768x64_S32768_d1 h_S_)))
      (broadcastInDim S32768x512 ![0, 1] bcast_S1x512_S32768x512_0_1
        (broadcastInDim S1x512 ![1] bcast_S512_S1x512_1
          (Host.reduceAdd (mulf e e) (constant S_ .f32 0x00000000#32) reducesTo_S512x64_S512_d1 h_S_))))
    (Host.dotGeneral dot_S32768x64_S64x512_S32768x512_1_0_0_1_n_n none
      (mulf (broadcastInDim S32768x64 ![] bcast_S_S32768x64 (constant S_ .f32 0x40000000#32)) x)
      (transpose S64x512 [1, 0] e transposes_S512x64_S64x512_1_0))

/-- The arg-min along the codewords. -/
def pick (d : FVec F S32768x512 .f32) : IVec S32768 32 := fun j =>
  (Host.argReduce reducer_argmin_f32_i32 d (iotaInDim S32768x512 32 1) (constant S_ .f32 0x7F800000#32)
    (constantI S_ 32 0#32) reducesTo_S32768x512_S32768_d1 h_S_ j).2

/-- The lookup's indices: a negative one counts from the end. -/
def wrapped (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 512#32))) i)

/-- Whether a lookup's index is one of the 512 codewords'. -/
def inside (w : IVec S32768x1 32) : IVec S32768 1 :=
  Host.reduce IntOp.andi
    (andi (cmpi .sge w (broadcastInDim S32768x1 ![] bcast_S_S32768x1 (constantI S_ 32 0#32)))
      (cmpi .sle w (broadcastInDim S32768x1 ![0, 1] bcast_S1x1_S32768x1_0_1
        (broadcastInDim S1x1 ![1] bcast_S1_S1x1_1 (constantI S1 32 511#32)))))
    (constantI S_ 1 1#1) reducesTo_S32768x1_S32768_d1 h_S_

/-- The codeword of each row; a row whose index is none of the codewords' gets the fill value. -/
def rows (e : FVec F S512x64 .f32) (i : IVec S32768 32) : FVec F S32768x64 .f32 :=
  select (broadcastInDim S32768x64 ![0] bcast_S32768_S32768x64_0 (inside (wrapped i)))
    (Host.gather gather_S512x64_S32768x1_S32768x64_1_0_n_n_0_1_164 e (wrapped i))
    (broadcastInDim S32768x64 ![] bcast_S_S32768x64 (constant S_ .f32 0x7FC00000#32))

/-- The reference's result. -/
def out (z : FVec F S128x64x16x16 .f32) (e : FVec F S512x64 .f32) : FVec F S128x64x16x16 .f32 :=
  transpose S128x64x16x16 [0, 3, 1, 2]
    (shapeCast S128x16x16x64 (rows e (pick (dist (flat z) e))) shapeCasts_S32768x64_S128x16x16x64)
    transposes_S128x16x16x64_S128x64x16x16_0_3_1_2

/-! ## The run -/

/-- The distances' operations, -/
abbrev distOps : List (HloOp τ sig (Elt F)) :=
  [ unary main_arg0 main_v0 ((transpose S128x16x16x64 [0, 2, 3, 1] · transposes_S128x64x16x16_S128x16x16x64_0_2_3_1)),
    reshape main_v0 main_v1 rfl shapeCasts_S128x16x16x64_S32768x64,
    binary main_v1 main_v1 main_v2 mulf,
    nullary main_cst (constant S_ .f32 0x00000000#32),
    binary main_v2 main_cst main_v3 (fun x v => Host.reduceAdd x v reducesTo_S32768x64_S32768_d1 h_S_),
    unary main_v3 main_v4 (broadcastInDim S32768x1 ![0] bcast_S32768_S32768x1_0),
    binary main_arg1 main_arg1 main_v5 mulf,
    nullary main_cst_0 (constant S_ .f32 0x00000000#32),
    binary main_v5 main_cst_0 main_v6 (fun x v => Host.reduceAdd x v reducesTo_S512x64_S512_d1 h_S_),
    unary main_v6 main_v7 (broadcastInDim S1x512 ![1] bcast_S512_S1x512_1),
    unary main_v4 main_v8 (broadcastInDim S32768x512 ![0, 1] bcast_S32768x1_S32768x512_0_1),
    unary main_v7 main_v9 (broadcastInDim S32768x512 ![0, 1] bcast_S1x512_S32768x512_0_1),
    binary main_v8 main_v9 main_v10 addf,
    nullary main_cst_1 (constant S_ .f32 0x40000000#32),
    unary main_cst_1 main_v11 (broadcastInDim S32768x64 ![] bcast_S_S32768x64),
    binary main_v11 main_v1 main_v12 mulf,
    unary main_arg1 main_v13 ((transpose S64x512 [1, 0] · transposes_S512x64_S64x512_1_0)),
    binary main_v12 main_v13 main_v14 (fun l r => Host.dotGeneral dot_S32768x64_S64x512_S32768x512_1_0_0_1_n_n none l r),
    binary main_v10 main_v14 main_v15 subf ]

/-- the arg-min's, -/
abbrev pickOps : List (HloOp τ sig (Elt F)) :=
  [ TRef.nullary main_call0.v0 (iotaInDim S32768x512 32 1),
    TRef.nullary main_call0.cst (constant S_ .f32 0x7F800000#32),
    TRef.nullary main_call0.c (constantI S_ 32 0#32),
    TRef.quaternary (.of main_v15) main_call0.v0 main_call0.cst main_call0.c main_call0.v1_0 (fun x y u v j => (Host.argReduce reducer_argmin_f32_i32 x y u v reducesTo_S32768x512_S32768_d1 h_S_ j).1),
    TRef.quaternary (.of main_v15) main_call0.v0 main_call0.cst main_call0.c main_call0.v1_1 (fun x y u v j => (Host.argReduce reducer_argmin_f32_i32 x y u v reducesTo_S32768x512_S32768_d1 h_S_ j).2) ]

/-- the lookup's, -/
abbrev rowsOps : List (HloOp τ sig (Elt F)) :=
  [ TRef.nullary main_call1.c (constantI S_ 32 0#32),
    TRef.unary main_call1.c main_call1.v0 (broadcastInDim S32768 ![] bcast_S_S32768),
    TRef.binary (.of main_v16) main_call1.v0 main_call1.v1 (cmpi .slt),
    TRef.nullary main_call1.c_0 (constantI S_ 32 512#32),
    TRef.unary main_call1.c_0 main_call1.v2 (broadcastInDim S32768 ![] bcast_S_S32768),
    TRef.binary (.of main_v16) main_call1.v2 main_call1.v3 addi,
    TRef.ternary main_call1.v1 main_call1.v3 (.of main_v16) main_call1.call0.v0 select,
    TRef.unary main_call1.call0.v0 main_call1.v5 (broadcastInDim S32768x1 ![0] bcast_S32768_S32768x1_0),
    TRef.nullary main_call1.c_1 (constantI S1 32 511#32),
    TRef.nullary main_call1.c_2 (constantI S_ 32 0#32),
    TRef.unary main_call1.c_2 main_call1.v6 (broadcastInDim S32768x1 ![] bcast_S_S32768x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32768x1 ![0, 1] bcast_S1x1_S32768x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32768x1_S32768_d1 h_S_),
    TRef.binary (.of main_arg1) main_call1.v5 main_call1.v13 (fun x i => Host.gather gather_S512x64_S32768x1_S32768x64_1_0_n_n_0_1_164 x i),
    TRef.unary main_call1.v12 main_call1.v14 (broadcastInDim S32768x64 ![0] bcast_S32768_S32768x64_0),
    TRef.nullary main_call1.cst (constant S_ .f32 0x7FC00000#32),
    TRef.unary main_call1.cst main_call1.v15 (broadcastInDim S32768x64 ![] bcast_S_S32768x64),
    TRef.ternary main_call1.v14 main_call1.v13 main_call1.v15 main_call1.v16 select ]

/-- and the last two, which lay the rows out as the input is. -/
abbrev layOps : List (HloOp τ sig (Elt F)) :=
  [ reshape main_v17 main_v18 rfl shapeCasts_S32768x64_S128x16x16x64,
    unary main_v18 main_v19 ((transpose S128x64x16x16 [0, 3, 1, 2] · transposes_S128x16x16x64_S128x64x16x16_0_3_1_2)) ]

/-- The reference's operations, in order, the two helpers' bodies in place of their calls. -/
abbrev ops : List (HloOp τ sig (Elt F)) := distOps ++ (pickOps ++ (rowsOps ++ layOps))

/-- The program is that list. -/
theorem main_eq (c : Dev nD) : main (F := F) c = seq ops := by
  simp only [main, fn_argmin.body, fn_take.body, fn_where.body, ops, List.cons_append, List.nil_append, seq, bind_assoc, pure_bind]
  rfl

/-- Two lists in a row are the second's fold after the first's. -/
theorem after_append (l l' : List (HloOp τ sig (Elt F))) (V : Valuation τ sig (Elt F)) :
    after (l ++ l') V = after l' (after l V) := by
  induction l generalizing V with
  | nil => rfl
  | cons op l ih => exact ih _

section Stages

variable (V : Valuation τ sig (Elt F))

theorem dist_eq : after distOps V (main_v15 : DevRef τ sig)
    = dist (flat (V (main_arg0 : DevRef τ sig))) (V (main_arg1 : DevRef τ sig)) := by
  after_results_simp
  rfl

theorem pick_eq : after pickOps V (main_v16 : DevRef τ sig) = pick (V (main_v15 : DevRef τ sig)) := by
  after_results_simp
  rfl

/-- A buffer's contents read at the buffer's own type are the contents. -/
theorem read_arg1 (h₁ h₂ h₃) (v : (⟨S512x64, .f32⟩ : BufTy).Contents (Elt F)) :
    (TRef.of (T := ⟨S512x64, .f32⟩) main_arg1 h₁ h₂ h₃).ofBuf (Val := Elt F) v = v := rfl

theorem read_v16 (h₁ h₂ h₃) (v : (⟨S32768, .i32⟩ : BufTy).Contents (Elt F)) :
    (TRef.of (T := ⟨S32768, .i32⟩) main_v16 h₁ h₂ h₃).ofBuf (Val := Elt F) v = v := rfl

theorem write_v17 (h₁ h₂ h₃) (v : (⟨S32768x64, .f32⟩ : BufTy).Contents (Elt F)) :
    (TRef.of (T := ⟨S32768x64, .f32⟩) main_v17 h₁ h₂ h₃).toBuf (Val := Elt F) v = v := rfl

theorem rows_eq : after rowsOps V (main_v17 : DevRef τ sig)
    = rows (V (main_arg1 : DevRef τ sig)) (V (main_v16 : DevRef τ sig)) := by
  after_results_simp
  simp only [TRef.ofBuf_toBuf]
  refine (write_v17 _ _ _ _).trans ?_
  erw [read_arg1, read_v16]
  rfl

theorem lay_eq : after layOps V (main_v19 : DevRef τ sig)
    = transpose S128x64x16x16 [0, 3, 1, 2]
        (shapeCast S128x16x16x64 (V (main_v17 : DevRef τ sig)) shapeCasts_S32768x64_S128x16x16x64)
        transposes_S128x16x16x64_S128x64x16x16_0_3_1_2 := by
  after_results_simp
  rfl

theorem kept_dist0 : after distOps V (main_arg0 : DevRef τ sig) = V (main_arg0 : DevRef τ sig) := by after_results_simp
theorem kept_dist1 : after distOps V (main_arg1 : DevRef τ sig) = V (main_arg1 : DevRef τ sig) := by after_results_simp
theorem kept_pick0 : after pickOps V (main_arg0 : DevRef τ sig) = V (main_arg0 : DevRef τ sig) := by after_results_simp
theorem kept_pick1 : after pickOps V (main_arg1 : DevRef τ sig) = V (main_arg1 : DevRef τ sig) := by after_results_simp
theorem kept_rows0 : after rowsOps V (main_arg0 : DevRef τ sig) = V (main_arg0 : DevRef τ sig) := by after_results_simp
theorem kept_rows1 : after rowsOps V (main_arg1 : DevRef τ sig) = V (main_arg1 : DevRef τ sig) := by after_results_simp
theorem kept_lay0 : after layOps V (main_arg0 : DevRef τ sig) = V (main_arg0 : DevRef τ sig) := by after_results_simp
theorem kept_lay1 : after layOps V (main_arg1 : DevRef τ sig) = V (main_arg1 : DevRef τ sig) := by after_results_simp

/-- The list leaves the result buffer at `out` of the arguments, -/
theorem out_eq : after ops V (main_v19 : DevRef τ sig)
    = out (V (main_arg0 : DevRef τ sig)) (V (main_arg1 : DevRef τ sig)) := by
  rw [ops, after_append, after_append, after_append, lay_eq, rows_eq, pick_eq, kept_pick1, dist_eq, kept_dist1]
  rfl

/-- and both arguments as they were. -/
theorem arg0_eq : after ops V (main_arg0 : DevRef τ sig) = V (main_arg0 : DevRef τ sig) := by
  rw [ops, after_append, after_append, after_append, kept_lay0, kept_rows0, kept_pick0, kept_dist0]

theorem arg1_eq : after ops V (main_arg1 : DevRef τ sig) = V (main_arg1 : DevRef τ sig) := by
  rw [ops, after_append, after_append, after_append, kept_lay1, kept_rows1, kept_pick1, kept_dist1]

end Stages

theorem scopedRefs_eq : (Finset.univ.filter fun b : Ref sig .tc => b.isScoped) = ∅ := by decide
theorem scopedSems_eq : (Finset.univ.filter fun sm : SemLoc sig => sm.isScoped .tc) = ∅ := by decide

/-- Every operation names only the TensorCore's buffers. -/
theorem ops_sub : (ops : List (HloOp τ sig (Elt F))).Forall fun op => op.bufs ⊆ tcRefs τ sig :=
  ⟨unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., nullary_bufs_sub .., unary_bufs_sub ..,
    binary_bufs_sub .., unary_bufs_sub .., binary_bufs_sub .., binary_bufs_sub .., nullary_bufs_sub ..,
    nullary_bufs_sub .., nullary_bufs_sub .., quaternary_bufs_sub .., quaternary_bufs_sub .., nullary_bufs_sub ..,
    unary_bufs_sub .., binary_bufs_sub .., nullary_bufs_sub .., unary_bufs_sub .., binary_bufs_sub ..,
    ternary_bufs_sub .., unary_bufs_sub .., nullary_bufs_sub .., nullary_bufs_sub .., unary_bufs_sub ..,
    binary_bufs_sub .., unary_bufs_sub .., unary_bufs_sub .., binary_bufs_sub .., binary_bufs_sub ..,
    nullary_bufs_sub .., binary_bufs_sub .., binary_bufs_sub .., unary_bufs_sub .., nullary_bufs_sub ..,
    unary_bufs_sub .., ternary_bufs_sub .., reshape_bufs_sub .., unary_bufs_sub ..⟩

/-- From any memory with zero counters the program ends, with its result at `out` of its arguments, its arguments
    unchanged and every semaphore counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v19)
            = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v19).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

end Cert.Proof.Ref

end
-- ==== Proof.RefValue.lean ====
/-
  The reference's result at an element: channel `c` of the codeword that is the first nearest to the element's position.
-/
module

public import proofs.«01_k».proof.Proof.RefRun
public import proofs.«01_k».proof.Proof.Nearest
public import Idealize.ShloMosaic.Lib.Pointwise
public import Idealize.ShloMosaic.Lib.Routing.Ops

@[expose] public section

noncomputable section

namespace Cert.Proof.Ref

open Idealize.ShloMosaic Idealize.ShloMosaic.TcCoe Idealize.SL.Sem
open Cert.ReferenceIdeal Cert.ReferenceIdeal.Gen

/-! ## The arg-min -/

/-- The reducer keeps the pair with the smaller value, and on equal values the one with the smaller index. -/
theorem reducer_eq (a b : EReal × BitVec 32) :
    reducer_argmin_f32_i32 (F := Ideal) a b = if pairKey a < pairKey b then a else b := by
  obtain ⟨x, i⟩ := a
  obtain ⟨y, j⟩ := b
  have hkey : pairKey (x, i) < pairKey (y, j) ↔ x < y ∨ x = y ∧ i.toInt < j.toInt := by
    simp [pairKey, Prod.Lex.toLex_lt_toLex]
  rcases lt_trichotomy x y with h | h | h
  · rw [if_pos (hkey.2 (.inl h))]
    simp [reducer_argmin_f32_i32, Ideal.cmpf_def, Ideal.cmp, h, h.ne, IntOp.ori, IntOp.andi, Scalar.select]
  · subst h
    by_cases hi : i.toInt < j.toInt
    · rw [if_pos (hkey.2 (.inr ⟨rfl, hi⟩))]
      simp [reducer_argmin_f32_i32, Ideal.cmpf_def, Ideal.cmp, IntOp.ori, IntOp.andi, IntOp.cmpi, Scalar.select, BitVec.slt, hi]
    · rw [if_neg fun h => by rcases hkey.1 h with h | h; exacts [lt_irrefl _ h, hi h.2]]
      simp [reducer_argmin_f32_i32, Ideal.cmpf_def, Ideal.cmp, IntOp.ori, IntOp.andi, IntOp.cmpi, Scalar.select, BitVec.slt, hi]
  · rw [if_neg fun hk => by rcases hkey.1 hk with h' | h'; exacts [lt_asymm h h', h.ne' h'.1]]
    simp [reducer_argmin_f32_i32, Ideal.cmpf_def, Ideal.cmp, h.not_gt, h.ne', IntOp.ori, IntOp.andi, Scalar.select]

/-- The pairs folded for row `n` are its distances with the codewords' numbers. -/
theorem mem_fiber (d : FVec Ideal S32768x512 .f32) (n : Fin 32768) (p : EReal × BitVec 32) :
    p ∈ Host.argReduceFiber d (iotaInDim S32768x512 32 1) reducesTo_S32768x512_S32768_d1 (ix1 n)
      ↔ ∃ j : Fin 512, p = (d (ix2 n j), BitVec.ofNat 32 j.val) := by
  simp only [Host.argReduceFiber, List.mem_map, List.mem_filter, List.mem_finRange, true_and, decide_eq_true_eq,
    Shape.ReducesTo.fiber_r2_a1]
  constructor
  · rintro ⟨q, ⟨k, hk⟩, rfl⟩
    exact ⟨k, by rw [← hk]; rfl⟩
  · rintro ⟨j, rfl⟩
    refine ⟨S32768x512.rowMajor (ix2 n j), ⟨j, ?_⟩, ?_⟩
    · rw [Equiv.symm_apply_apply]; rfl
    · rw [Equiv.symm_apply_apply]; rfl

theorem htop : (constant (F := Ideal) S_ .f32 0x7F800000#32) (Shape.Idx.first h_S_) = (⊤ : EReal) := by
  show Ideal.ofBits .f32 0x7F800000#32 = ⊤
  simp [Ideal.ofBits, Ideal.ieee]

/-- Over the extended reals a two-operand reduction is one pass over the pairs of its fibre. -/
theorem argReduce_snd {s t u : Shape} {axes : List (Fin s.rank)}
    (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel)
    (P : IVec t 32) (hP : P = fun j => (Host.argReduce f x y ix iy h hu j).2) (j : t.Idx) :
    ∃ l : List (Ideal .f32 × BitVec 32), (∀ p, p ∈ l ↔ p ∈ Host.argReduceFiber x y h j)
      ∧ P j = (l.foldl f (ix (Shape.Idx.first hu), iy (Shape.Idx.first hu))).2 :=
  ⟨_, fun _ => Iff.rfl, by
    rw [hP, Ideal.argReduce_eq_reduce2]
    dsimp only
    rw [Host.reduce2_eq_foldl_fiber]⟩

/-- The arg-min, as a function of the row. -/
theorem pick_fun (d : FVec Ideal S32768x512 .f32) : pick (F := Ideal) d = fun j =>
    (Host.argReduce (F := Ideal) (φ := .f32) (reducer_argmin_f32_i32 (F := Ideal)) d (iotaInDim S32768x512 32 1)
      (constant (F := Ideal) S_ .f32 0x7F800000#32) (constantI S_ 32 0#32) reducesTo_S32768x512_S32768_d1 h_S_ j).2 := rfl

theorem pick_apply (d : FVec Ideal S32768x512 .f32) (n : Fin 32768) {k : Fin 512}
    (h : IsFirstMin (fun j => d (ix2 n j)) k) : pick (F := Ideal) d (ix1 n) = BitVec.ofNat 32 k.val := by
  obtain ⟨l, hl, hp⟩ := argReduce_snd _ _ _ _ _ _ _ _ (pick_fun d) (ix1 n)
  rw [hp, htop]
  exact foldl_pairs h _ reducer_eq l fun p => (hl p).trans (mem_fiber d n p)

/-! ## The lookup -/

/-- A codeword's number stays as it is. -/
theorem wrapped_apply (i : IVec S32768 32) (n : Fin 32768) (u : Fin 1) {k : Fin 512} (h : i (ix1 n) = BitVec.ofNat 32 k.val) :
    wrapped i (ix2 n u) = BitVec.ofNat 32 k.val := by
  pointwise [wrapped]
  rw [h]
  have hneg : IntOp.cmpi .slt (BitVec.ofNat 32 k.val) 0#32 = 0#1 := by
    have hk : k.val < 512 := k.isLt
    have h0 : ¬ ((k.val : ℤ) < 0) := by omega
    simp only [IntOp.cmpi, BitVec.slt, StableHlo.Predicate.toInt_ofNat_small k.val (by omega),
      show (0#32).toInt = 0 from rfl, decide_eq_false h0]
    rfl
  rw [hneg]
  rfl

/-- A codeword's number is one of the codewords'. -/
theorem inside_apply (w : IVec S32768x1 32) (n : Fin 32768) {k : Fin 512}
    (h : ∀ u : Fin 1, w (ix2 n u) = BitVec.ofNat 32 k.val) : inside w (ix1 n) = 1#1 := by
  pointwise [inside]
  simp only [h]
  have hk : k.val < 512 := k.isLt
  have hlo : IntOp.cmpi .sge (BitVec.ofNat 32 k.val) 0#32 = 1#1 := by
    simp [IntOp.cmpi, BitVec.sle, StableHlo.Predicate.toInt_ofNat_small k.val (by omega)]
  have hhi : IntOp.cmpi .sle (BitVec.ofNat 32 k.val) 511#32 = 1#1 := by
    have h1 : (k.val : ℤ) ≤ 511 := by omega
    simp only [IntOp.cmpi, BitVec.sle, StableHlo.Predicate.toInt_ofNat_small k.val (by omega),
      show (511#32).toInt = 511 from rfl, decide_eq_true h1]
    rfl
  rw [hlo, hhi]
  simp [IntOp.andi]

theorem rows_apply (e : FVec Ideal S512x64 .f32) (i : IVec S32768 32) (n : Fin 32768) (c : Fin 64) {k : Fin 512}
    (h : i (ix1 n) = BitVec.ofNat 32 k.val) : rows (F := Ideal) e i (ix2 n c) = e (ix2 k c) := by
  pointwise [rows]
  rw [inside_apply (wrapped i) n fun u => wrapped_apply i n u h]
  exact Routing.gather_row gather_S512x64_S32768x1_S32768x64_1_0_n_n_0_1_164 rfl rfl rfl rfl rfl e (wrapped i) n c k
    (wrapped_apply i n 0 h) (by norm_num)

/-! ## The distances and the result -/

/-- The row of position `(h, w)` of image `b`. -/
theorem row_lt (b : Fin 128) (h w : Fin 16) : b.val * 256 + h.val * 16 + w.val < 32768 := by omega

theorem flat_apply (z : FVec Ideal S128x64x16x16 .f32) (b : Fin 128) (c : Fin 64) (h w : Fin 16) :
    flat (F := Ideal) z (ix2 ⟨b.val * 256 + h.val * 16 + w.val, row_lt b h w⟩ c) = z (ix4 b c h w) := by
  pointwise [flat]

theorem dist_apply (x : FVec Ideal S32768x64 .f32) (e : FVec Ideal S512x64 .f32) (n : Fin 32768) (j : Fin 512) :
    dist (F := Ideal) x e (ix2 n j) = ((∑ c : Fin 64, x (ix2 n c) * x (ix2 n c)) + ∑ c : Fin 64, e (ix2 j c) * e (ix2 j c))
      - ∑ c : Fin 64, (2 : EReal) * x (ix2 n c) * e (ix2 j c) := by
  pointwise [dist]
  have h2 : Ideal.ofBits .f32 0x40000000#32 = 2 := by
    rw [show (2 : EReal) = ((2 : ℝ) : EReal) by norm_cast]
    simp [Ideal.ofBits, Ideal.ieee, -EReal.coe_mul]; norm_num
  rw [h2]

/-- The result at an element whose position's channels are finite: channel `c` of the codeword with the first smallest
    score, the score being the distance less the channels' own square. -/
theorem out_apply (z : FVec Ideal S128x64x16x16 .f32) (e : FVec Ideal S512x64 .f32) (hz : ∀ i, z i ≠ ⊤ ∧ z i ≠ ⊥)
    (b : Fin 128) (c : Fin 64) (h w : Fin 16) {k : Fin 512}
    (hk : IsFirstMin (fun j => (∑ c : Fin 64, e (ix2 j c) * e (ix2 j c)) - 2 * ∑ c : Fin 64, e (ix2 j c) * z (ix4 b c h w)) k) :
    out (F := Ideal) z e (ix4 b c h w) = e (ix2 k c) := by
  pointwise [out]
  refine rows_apply e _ _ c (pick_apply _ _ ?_)
  simp only [dist_apply, flat_apply]
  exact (isFirstMin_dist (fun j c => e (ix2 j c)) (fun c => z (ix4 b c h w)) (fun c => hz _) k).2 hk

end Cert.Proof.Ref

end
-- ==== Proof.Finite.lean ====
/-
  The precondition read: every element of the images is finite.
-/
module

public import proofs.«01_k».proof.Proof.Gen.Pre_finite_z
public import Idealize.ShloMosaic.Lib.Pointwise
public import Idealize.ShloMosaic.Lib.ReduceAll

@[expose] public section

noncomputable section

namespace Cert.Proof

open Idealize.ShloMosaic Idealize.ShloMosaic.TcCoe Idealize.SL.Sem
open Cert.Pre_finite_z

/-- An extended real whose magnitude is below the top is finite. -/
theorem finite_of_abs_lt {x : EReal} (h : max x (-x) < ⊤) : x ≠ ⊤ ∧ x ≠ ⊥ := by
  constructor <;> rintro rfl <;> simp at h

theorem finite_of_pre (z : FVec Ideal S128x64x16x16 .f32) (e : FVec Ideal S512x64 .f32)
    (h : fn (F := Ideal) z e = fun _ => 1#1) (i : S128x64x16x16.Idx) : z i ≠ ⊤ ∧ z i ≠ ⊥ := by
  haveI : Subsingleton S_.Idx := ⟨fun _ _ => funext fun a => a.elim0⟩
  have h1 := Host.reduce_andi_all _ _ _ _ (Shape.Idx.first Facts.h_S_) (congrFun h _) i
  refine finite_of_abs_lt ?_
  have htop : Ideal.ofBits .f32 0x7F800000#32 = ⊤ := by simp [Ideal.ofBits, Ideal.ieee]
  rw [← htop]
  exact (Ideal.cmp_olt_eq_one _ _).1 h1

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_z
public import Idealize.ShloMosaic.Adequacy
public import proofs.«01_k».proof.Proof.Array
public import proofs.«01_k».proof.Proof.RefValue
public import proofs.«01_k».proof.Proof.Finite
public import Idealize.ShloMosaic.Lib.Claim
public import Idealize.ShloMosaic.Init

@[expose] public section

noncomputable section

namespace Cert.Proof

open Idealize.ShloMosaic Idealize.ShloMosaic.TcCoe Idealize.SL.Sem

/-- The reference and the kernel choose the same codeword at every position. -/
theorem out_eq_result (z : FVec Ideal KernelIdeal.S128x64x16x16 .f32) (e : FVec Ideal KernelIdeal.S512x64 .f32)
    (hz : ∀ i, z i ≠ ⊤ ∧ z i ≠ ⊥) : Ref.out (F := Ideal) z e = result z e := by
  funext i
  obtain ⟨b, c, h, w, rfl⟩ : ∃ b c h w, i = ix4 b c h w := ⟨_, _, _, _, eq_ix4 i⟩
  exact Ref.out_apply z e hz b c h w (chosen_spec e fun c => z (ix4 b c h w))

/-- The two programs' results are equal. -/
theorem algebraic : Cert.algebraic_KernelIdeal_ReferenceIdeal_pre_finite_z := by
  intro m g m' g' hpre hagree
  refine ⟨_, kernel_run m g, θ_run_mono (Ref.run (F := Ideal) m' g') fun r hr c => ?_⟩
  refine ⟨(hr.1 c).1.trans ?_, (hr.1 c).2⟩
  rw [(hagree c).1, (hagree c).2]
  exact out_eq_result _ _ (finite_of_pre _ _ (hpre c))

theorem claim : Cert.Claim :=
  ⟨Cert.Kernel.Gen.facts, Cert.KernelIdeal.Gen.facts, Cert.ReferenceIdeal.Gen.facts, Cert.Pre_finite_z.Gen.facts,
    fun m g _ => Cert.Kernel.Gen.frame m g,
    fun m g _ => Cert.KernelIdeal.Gen.frame m g,
    fun m g _ => Cert.KernelIdeal.Gen.frame m g,
    fun m g _ => θ_run_mono (Ref.run (F := Ideal) m g) fun _ h => ⟨fun c => (h.1 c).2, h.2⟩,
    fun m g _ => θ_run_mono (Ref.run (F := Ideal) m g) fun _ h => ⟨fun c => (h.1 c).2, h.2⟩,
    trivial,
    algebraic⟩

end Cert.Proof

end
